-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mass_in_range [hPre_mass_in_range : Cert.Pre_mass_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_mass_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mass_in_range [hPre_mass_in_range : Cert.Pre_mass_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mass_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_mass_in_range [hKernelIdeal : Cert.KernelIdeal.Facts] [hPre_mass_in_range : Cert.Pre_mass_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mass_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_mass_in_range [hReferenceIdeal : Cert.ReferenceIdeal.Facts] [hPre_mass_in_range : Cert.Pre_mass_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mass_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_mass_in_range [hKernelIdeal : Cert.KernelIdeal.Facts] [hReferenceIdeal : Cert.ReferenceIdeal.Facts] [hPre_mass_in_range : Cert.Pre_mass_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mass_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_mass_in_range : Cert.Pre_mass_in_range.Facts),
    quiescent_Kernel (hKernel := hKernel)
    ∧ quiescent_KernelIdeal (hKernelIdeal := hKernelIdeal)
    ∧ quiescent_KernelIdeal_pre_mass_in_range (hKernelIdeal := hKernelIdeal) (hPre_mass_in_range := hPre_mass_in_range)
    ∧ quiescent_ReferenceIdeal (hReferenceIdeal := hReferenceIdeal)
    ∧ quiescent_ReferenceIdeal_pre_mass_in_range (hReferenceIdeal := hReferenceIdeal) (hPre_mass_in_range := hPre_mass_in_range)
    ∧ preserves_Kernel_KernelIdeal
    ∧ algebraic_KernelIdeal_ReferenceIdeal_pre_mass_in_range (hKernelIdeal := hKernelIdeal) (hReferenceIdeal := hReferenceIdeal) (hPre_mass_in_range := hPre_mass_in_range)
-- ==== Pre_mass_in_range.lean ====
abbrev S4096x4096 : Shape := ⟨2, ![4096, 4096]⟩
abbrev S4096x1 : Shape := ⟨2, ![4096, 1]⟩
abbrev S4096x1000 : Shape := ⟨2, ![4096, 1000]⟩
abbrev S1000 : Shape := ⟨1, ![1000]⟩
abbrev S4096 : Shape := ⟨1, ![4096]⟩
abbrev S_ : Shape := ⟨0, ![]⟩

class Facts : Prop where
  shapeCasts_S4096x1_S4096 : S4096x1.ShapeCasts S4096
  bcast_S_S4096 : S_.BroadcastsInDim S4096 (![] : Fin 0 → Fin S4096.rank)

variable [Facts]

def fn_round {F : FTy → Type} [FloatOps F] (arg0 : FVec F S4096 .f32) : FVec F S4096 .f32 :=
  let v0 : FVec F S4096 .f32 := Host.roundeven arg0
  v0

def fn {F : FTy → Type} [FloatOps F] (main_arg0 : FVec F S4096x4096 .f32) (main_arg1 : FVec F S4096x1 .f32) (main_arg2 : FVec F S4096x1000 .f32) (main_arg3 : FVec F S1000 .f32) (main_arg4 : FVec F S4096x1000 .f32) (main_arg5 : FVec F S1000 .f32) (main_arg6 : FVec F S4096x1000 .f32) (main_arg7 : FVec F S1000 .f32) : IVec S4096 1 :=
  let main_v0 : FVec F S4096 .f32 := shapeCast S4096 main_arg1 shapeCasts_S4096x1_S4096
  let main_v1 : FVec F S4096 .f32 := fn_round (F := F) main_v0
  let main_v2 : IVec S4096 32 := fptosi 32 main_v1
  let main_c : IVec S_ 32 := constantI S_ 32 994#32
  let main_v3 : IVec S4096 32 := broadcastInDim S4096 ![] bcast_S_S4096 main_c
  let main_v4 : IVec S4096 1 := cmpi .sle main_v2 main_v3
  main_v4
-- ==== Kernel.lean ====
abbrev S4096x4096 : Shape := ⟨2, ![4096, 4096]⟩
abbrev S4096x1 : Shape := ⟨2, ![4096, 1]⟩
abbrev S4096x1000 : Shape := ⟨2, ![4096, 1000]⟩
abbrev S1000 : Shape := ⟨1, ![1000]⟩
abbrev S256x4096 : Shape := ⟨2, ![256, 4096]⟩
abbrev S256x1 : Shape := ⟨2, ![256, 1]⟩
abbrev S256x1000 : Shape := ⟨2, ![256, 1000]⟩
abbrev S4096x1024 : Shape := ⟨2, ![4096, 1024]⟩
abbrev S1x1024 : Shape := ⟨2, ![1, 1024]⟩
abbrev S1024x1000 : Shape := ⟨2, ![1024, 1000]⟩
abbrev S_ : Shape := ⟨0, ![]⟩
abbrev S1000x1024 : Shape := ⟨2, ![1000, 1024]⟩
abbrev S1x1000 : Shape := ⟨2, ![1, 1000]⟩
abbrev S1024x1024 : Shape := ⟨2, ![1024, 1024]⟩
abbrev S256x1024 : Shape := ⟨2, ![256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x1, .f32⟩
  | .hbm, ⟨2, _⟩ => ⟨S4096x1000, .f32⟩
  | .hbm, ⟨3, _⟩ => ⟨S1000, .f32⟩
  | .hbm, ⟨4, _⟩ => ⟨S4096x1000, .f32⟩
  | .hbm, ⟨5, _⟩ => ⟨S1000, .f32⟩
  | .hbm, ⟨6, _⟩ => ⟨S4096x1000, .f32⟩
  | .hbm, ⟨7, _⟩ => ⟨S1000, .f32⟩
  | .hbm, ⟨8, _⟩ => ⟨S4096x1000, .f32⟩
  | .hbm, ⟨9, _⟩ => ⟨S4096x1000, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S1000, .f32⟩
  | .local _ .vmem, ⟨5, _⟩ => ⟨S1000, .f32⟩
  | .local _ .vmem, ⟨6, _⟩ => ⟨S1000, .f32⟩
  | .local _ .vmem, ⟨7, _⟩ => ⟨S256x1000, .f32⟩
  | .local _ .vmem, ⟨8, _⟩ => ⟨S256x1000, .f32⟩
  | .local _ .vmem, ⟨9, _⟩ => ⟨S256x1000, .f32⟩
  | .local _ .vmem, ⟨10, _⟩ => ⟨S256x1000, .f32⟩
  | .local _ .vmem, ⟨11, _⟩ => ⟨S4096x1000, .bf16⟩
  | .local _ .vmem, ⟨12, _⟩ => ⟨S4096x1024, .bf16⟩
  | .local _ .vmem, ⟨13, _⟩ => ⟨S4096x1000, .bf16⟩
  | .local _ .vmem, ⟨14, _⟩ => ⟨S1x1024, .f32⟩
  | .local _ .vmem, ⟨15, _⟩ => ⟨S1024x1000, .f32⟩
  | .local _ .vmem, ⟨16, _⟩ => ⟨S1024x1000, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x4096 : Shape := ⟨2, ![4096, 4096]⟩
abbrev S4096x1 : Shape := ⟨2, ![4096, 1]⟩
abbrev S4096x1000 : Shape := ⟨2, ![4096, 1000]⟩
abbrev S1000 : Shape := ⟨1, ![1000]⟩
abbrev S1x1000 : Shape := ⟨2, ![1, 1000]⟩
abbrev S4096 : Shape := ⟨1, ![4096]⟩
abbrev S_ : Shape := ⟨0, ![]⟩
abbrev S4096x1000x1 : Shape := ⟨3, ![4096, 1000, 1]⟩
abbrev S4096x1000x2 : Shape := ⟨3, ![4096, 1000, 2]⟩

abbrev nBuf : Space → Nat
  | .hbm => 104
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1, .f32⟩
  | .hbm, ⟨2, _⟩ => ⟨S4096x1000, .f32⟩
  | .hbm, ⟨3, _⟩ => ⟨S1000, .f32⟩
  | .hbm, ⟨4, _⟩ => ⟨S4096x1000, .f32⟩
  | .hbm, ⟨5, _⟩ => ⟨S1000, .f32⟩
  | .hbm, ⟨6, _⟩ => ⟨S4096x1000, .f32⟩
  | .hbm, ⟨7, _⟩ => ⟨S1000, .f32⟩
  | .hbm, ⟨8, _⟩ => ⟨S4096x1000, .f32⟩
  | .hbm, ⟨9, _⟩ => ⟨S1x1000, .f32⟩
  | .hbm, ⟨10, _⟩ => ⟨S4096x1000, .f32⟩
  | .hbm, ⟨11, _⟩ => ⟨S4096x1000, .f32⟩
  | .hbm, ⟨12, _⟩ => ⟨S4096, .f32⟩
  | .hbm, ⟨13, _⟩ => ⟨S4096, .f32⟩
  | .hbm, ⟨14, _⟩ => ⟨S4096, .i32⟩
  | .hbm, ⟨15, _⟩ => ⟨S1000, .i32⟩
  | .hbm, ⟨16, _⟩ => ⟨S1x1000, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S4096x1000, .i32⟩
  | .hbm, ⟨22, _⟩ => ⟨S4096x1000, .i32⟩
  | .hbm, ⟨23, _⟩ => ⟨S4096x1000, .i1⟩
  | .hbm, ⟨24, _⟩ => ⟨S4096x1000, .f32⟩
  | .hbm, ⟨25, _⟩ => ⟨S4096x1000, .f32⟩
  | .hbm, ⟨26, _⟩ => ⟨S4096x1000, .f32⟩
  | .hbm, ⟨27, _⟩ => ⟨S1x1000, .f32⟩
  | .hbm, ⟨28, _⟩ => ⟨S4096x1000, .f32⟩
  | .hbm, ⟨29, _⟩ => ⟨S4096x1000, .f32⟩
  | .hbm, ⟨30, _⟩ => ⟨S4096, .f32⟩
  | .hbm, ⟨31, _⟩ => ⟨S4096, .f32⟩
  | .hbm, ⟨32, _⟩ => ⟨S4096, .i32⟩
  | .hbm, ⟨33, _⟩ => ⟨S1000, .i32⟩
  | .hbm, ⟨34, _⟩ => ⟨S1x1000, .i32⟩
  | .hbm, ⟨35, _⟩ => ⟨S4096x1, .i32⟩
  | .hbm, ⟨36, _⟩ => ⟨S4096x1000, .i32⟩
  | .hbm, ⟨37, _⟩ => ⟨S4096x1000, .i32⟩
  | .hbm, ⟨38, _⟩ => ⟨S4096x1000, .i32⟩
  | .hbm, ⟨39, _⟩ => ⟨S_, .i32⟩
  | .hbm, ⟨40, _⟩ => ⟨S4096x1000, .i32⟩
  | .hbm, ⟨41, _⟩ => ⟨S4096x1000, .i32⟩
  | .hbm, ⟨42, _⟩ => ⟨S_, .i32⟩
  | .hbm, ⟨43, _⟩ => ⟨S4096x1000, .i32⟩
  | .hbm, ⟨44, _⟩ => ⟨S4096x1000, .i1⟩
  | .hbm, ⟨45, _⟩ => ⟨S_, .i32⟩
  | .hbm, ⟨46, _⟩ => ⟨S4096x1000, .i32⟩
  | .hbm, ⟨47, _⟩ => ⟨S4096x1000, .i1⟩
  | .hbm, ⟨48, _⟩ => ⟨S4096x1000, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S4096x1000, .i32⟩
  | .hbm, ⟨53, _⟩ => ⟨S4096x1000, .i32⟩
  | .hbm, ⟨54, _⟩ => ⟨S_, .i32⟩
  | .hbm, ⟨55, _⟩ => ⟨S4096x1000, .i32⟩
  | .hbm, ⟨56, _⟩ => ⟨S4096x1000, .i32⟩
  | .hbm, ⟨57, _⟩ => ⟨S_, .f32⟩
  | .hbm, ⟨58, _⟩ => ⟨S4096x1000, .f32⟩
  | .hbm, ⟨59, _⟩ => ⟨S4096x1000, .f32⟩
  | .hbm, ⟨60, _⟩ => ⟨S4096, .i32⟩
  | .hbm, ⟨61, _⟩ => ⟨S4096x1, .i32⟩
  | .hbm, ⟨62, _⟩ => ⟨S_, .f32⟩
  | .hbm, ⟨63, _⟩ => ⟨S4096x1000, .f32⟩
  | .hbm, ⟨64, _⟩ => ⟨S_, .i32⟩
  | .hbm, ⟨65, _⟩ => ⟨S4096x1, .i32⟩
  | .hbm, ⟨66, _⟩ => ⟨S4096x1, .i1⟩
  | .hbm, ⟨67, _⟩ => ⟨S_, .i32⟩
  | .hbm, ⟨68, _⟩ => ⟨S4096x1, .i32⟩
  | .hbm, ⟨69, _⟩ => ⟨S4096x1, .i32⟩
  | .hbm, ⟨70, _⟩ => ⟨S4096x1, .i32⟩
  | .hbm, ⟨71, _⟩ => ⟨S_, .i32⟩
  | .hbm, ⟨72, _⟩ => ⟨S4096x1000, .i32⟩
  | .hbm, ⟨73, _⟩ => ⟨S4096x1000, .i1⟩
  | .hbm, ⟨74, _⟩ => ⟨S_, .i32⟩
  | .hbm, ⟨75, _⟩ => ⟨S4096x1000, .i32⟩
  | .hbm, ⟨76, _⟩ => ⟨S4096x1000, .i32⟩
  | .hbm, ⟨77, _⟩ => ⟨S4096x1000, .i32⟩
  | .hbm, ⟨78, _⟩ => ⟨S4096x1000, .i32⟩
  | .hbm, ⟨79, _⟩ => ⟨S4096x1000x1, .i32⟩
  | .hbm, ⟨80, _⟩ => ⟨S4096x1000x1, .i32⟩
  | .hbm, ⟨81, _⟩ => ⟨S4096x1000x2, .i32⟩
  | .hbm, ⟨82, _⟩ => ⟨S4096x1000, .f32⟩
  | .hbm, ⟨83, _⟩ => ⟨S4096x1000, .f32⟩
  | .hbm, ⟨84, _⟩ => ⟨S1x1000, .f32⟩
  | .hbm, ⟨85, _⟩ => ⟨S4096x1000, .f32⟩
  | .hbm, ⟨86, _⟩ => ⟨S4096x1000, .f32⟩
  | .hbm, ⟨87, _⟩ => ⟨S4096x1000, .f32⟩
  | .hbm, ⟨88, _⟩ => ⟨S4096x1000, .f32⟩
  | .hbm, ⟨89, _⟩ => ⟨S_, .f32⟩
  | .hbm, ⟨90, _⟩ => ⟨S4096x1000, .f32⟩
  | .hbm, ⟨91, _⟩ => ⟨S4096x1000, .f32⟩
  | .hbm, ⟨92, _⟩ => ⟨S_, .f32⟩
  | .hbm, ⟨93, _⟩ => ⟨S4096x1000, .f32⟩
  | .hbm, ⟨94, _⟩ => ⟨S4096x1000, .f32⟩
  | .hbm, ⟨95, _⟩ => ⟨S4096x1000, .f32⟩
  | .hbm, ⟨96, _⟩ => ⟨S_, .f32⟩
  | .hbm, ⟨97, _⟩ => ⟨S4096x1000, .f32⟩
  | .hbm, ⟨98, _⟩ => ⟨S4096x1000, .f32⟩
  | .hbm, ⟨99, _⟩ => ⟨S4096x1000, .f32⟩
  | .hbm, ⟨100, _⟩ => ⟨S4096x1000, .f32⟩
  | .hbm, ⟨101, _⟩ => ⟨S_, .f32⟩
  | .hbm, ⟨102, _⟩ => ⟨S4096x1000, .f32⟩
  | .hbm, ⟨103, _⟩ => ⟨S4096x1000, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_0 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_c_4 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call4_cst : Ref sig .tc := ⟨.hbm, 101, rfl⟩
abbrev main_call4_v0 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.WordCmp
public import Idealize.ShloMosaic.Lib.Pipeline.ValueKit

@[expose] public section

noncomputable section

namespace Cert.Spectrum

open Idealize.ShloMosaic

/-- The six weight arrays of the two linear heads and of the gate, read as plain functions. -/
structure Params where
  Wf : Fin 4096 → Fin 1000 → EReal
  bf : Fin 1000 → EReal
  Wb : Fin 4096 → Fin 1000 → EReal
  bb : Fin 1000 → EReal
  Wg : Fin 4096 → Fin 1000 → EReal
  bg : Fin 1000 → EReal

/-- A linear head at column `c`: the row `x` times column `c` of `W`, plus the bias. -/
def lin (x : Fin 4096 → EReal) (W : Fin 4096 → Fin 1000 → EReal) (b : Fin 1000 → EReal) (c : Fin 1000) : EReal :=
  ∑ k : Fin 4096, x k * W k c + b c

/-- A mass rounded half to even and converted to a 32-bit word. -/
def massWord (mass : EReal) : BitVec 32 :=
  FloatOps.fptosi (F := Ideal) (φ := .f32) 32 (Ideal.liftRound Ideal.roundHalfEven mass)

/-- The last column a spectrum of this mass may reach: the rounded mass plus five. -/
def last (mass : EReal) : ℤ := (massWord mass).toInt + 5

/-- The gated spectrum of one molecule at column `c`: up to the last reachable column `s` the gate
    `g` mixes the forward head at `c` with the backward head at `s - c`; beyond it, zero. -/
def raw (x : Fin 4096 → EReal) (mass : EReal) (p : Params) (c : Fin 1000) : EReal :=
  if (c.val : ℤ) ≤ last mass then
    Ideal.logistic (lin x p.Wg p.bg c) * lin x p.Wf p.bf c
      + (1 - Ideal.logistic (lin x p.Wg p.bg c)) * lin x p.Wb p.bb (Fin.ofNat 1000 (last mass - c.val).toNat)
  else 0

end Cert.Spectrum
end
-- ==== Proof.Words.lean ====
module

public import proofs.«01_k».proof.Proof.Spec

@[expose] public section

namespace Cert.Spectrum

open Idealize.ShloMosaic

/-- Adding five to a word that is at most 994 does not wrap. -/
theorem toInt_add_five {T : BitVec 32} (h : T.toInt ≤ 994) : (T + 5#32).toInt = T.toInt + 5 := by
  have := T.le_toInt
  rw [BitVec.toInt_add, show (5#32).toInt = 5 from rfl]
  exact Int.bmod_eq_of_le (by omega) (by omega)

/-- A column is compared with the last reachable column as integers are. -/
theorem sle_last {T : BitVec 32} (h : T.toInt ≤ 994) (c : Fin 1000) :
    IntOp.cmpi .sle (BitVec.ofNat 32 c.val) (IntOp.addi T 5#32) = BitVec.ofBool (decide ((c.val : ℤ) ≤ T.toInt + 5)) := by
  rw [WordCmp.cmpi_sle_eq, IntOp.addi, toInt_add_five h, WordCmp.toInt_ofNat_of_lt (by omega)]

/-- The kernel's shift word: 999 minus the last reachable column, clipped to `[0, 1023]`. -/
def shiftWord (T : BitVec 32) : BitVec 32 :=
  IntOp.minsi 1023#32 (IntOp.maxsi 0#32 (IntOp.subi 999#32 (IntOp.addi T 5#32)))

/-- Where column 0 is reachable the clip of the shift does nothing. -/
theorem toNat_shiftWord {T : BitVec 32} (h : T.toInt ≤ 994) (h0 : 0 ≤ T.toInt + 5) :
    ((shiftWord T).toNat : ℤ) = 999 - (T.toInt + 5) := by
  have e : (999#32 - (T + 5#32)).toInt = 999 - (T.toInt + 5) := by
    rw [BitVec.toInt_sub, toInt_add_five h, show (999#32).toInt = 999 from rfl]
    exact Int.bmod_eq_of_le (by omega) (by omega)
  have e1 : ¬ (999#32 - (T + 5#32)).slt 0#32 ∨ 999#32 - (T + 5#32) = 0#32 := by
    left
    rw [BitVec.slt_iff_toInt_lt, e, show (0#32).toInt = 0 from rfl]
    omega
  have e2 : IntOp.maxsi 0#32 (IntOp.subi 999#32 (IntOp.addi T 5#32)) = 999#32 - (T + 5#32) := by
    show (if (999#32 - (T + 5#32)).slt 0#32 then 0#32 else 999#32 - (T + 5#32)) = _
    rcases e1 with e1 | e1
    · rw [if_neg e1]
    · rw [e1]; rfl
  have e3 : ¬ (1023#32).slt (999#32 - (T + 5#32)) := by
    rw [BitVec.slt_iff_toInt_lt, e, show (1023#32).toInt = 1023 from rfl]
    omega
  have e4 : shiftWord T = 999#32 - (T + 5#32) := by
    show (if (1023#32).slt _ then _ else _) = _
    rw [e2, if_neg e3]
  have := BitVec.toInt_eq_toNat_of_msb (x := 999#32 - (T + 5#32)) (by
    rw [BitVec.msb_eq_false_iff_two_mul_lt]
    have := BitVec.toInt_eq_toNat_cond (999#32 - (T + 5#32))
    split at this <;> omega)
  rw [e4, ← this, e]

/-- The reference's target word for backward column `i`: the rounded mass minus `i`, plus five. -/
def destWord (T : BitVec 32) (i : ℕ) : BitVec 32 := IntOp.addi (IntOp.subi T (BitVec.ofNat 32 i)) 5#32

/-- Backward column `i` lands on column `c` of the spectrum exactly when `i` is the last reachable
    column minus `c`. -/
theorem toInt_destWord {T : BitVec 32} (h : T.toInt ≤ 994) (i c : Fin 1000) :
    (destWord T i.val).toInt = (c.val : ℤ) ↔ (i.val : ℤ) = T.toInt + 5 - c.val := by
  have hl := T.le_toInt
  have hd := (destWord T i.val).le_toInt
  have e : (destWord T i.val).toInt = ((T.toInt - i.val).bmod (2 ^ 32) + 5).bmod (2 ^ 32) := by
    show (T - BitVec.ofNat 32 i.val + 5#32).toInt = _
    rw [BitVec.toInt_add, BitVec.toInt_sub, WordCmp.toInt_ofNat_of_lt (by omega)]
    rfl
  rw [e, Int.bmod_add_bmod, Int.bmod_def]
  split <;> omega

/-- The reference's clip of a word to `[0, 999]` is a small nonnegative word. -/
theorem toInt_clip (x : BitVec 32) :
    (IntOp.minsi 999#32 (IntOp.maxsi 0#32 x)).toInt = if x.toInt < 0 then 0 else if 999 < x.toInt then 999 else x.toInt := by
  unfold IntOp.minsi IntOp.maxsi
  simp only [BitVec.slt_iff_toInt_lt, show (0#32).toInt = 0 from rfl]
  split
  · rw [show (0#32).toInt = 0 from rfl, show (999#32).toInt = 999 from rfl, if_neg (by omega)]; rfl
  · rw [show (999#32).toInt = 999 from rfl]; split <;> rfl

end Cert.Spectrum
end
-- ==== Proof.Roll.lean ====
module

public import proofs.«01_k».proof.Proof.Gen.KernelIdeal.Skeleton
public import proofs.«01_k».proof.Proof.Words
public import Mathlib.Data.Nat.Bitwise

@[expose] public section

set_option maxRecDepth 16384

noncomputable section

namespace Cert.KernelIdeal.Roll

open Cert.KernelIdeal Cert.KernelIdeal.Gen Idealize.ShloMosaic Idealize.ShloMosaic.TcCoe

/-- One step of the barrel shift: rows whose shift word has bit `i` set are rotated by `2 ^ i`
    columns to the left, the others stay. -/
def hop (i : ℕ) (sh : IVec S256x1 32) (x : FVec Ideal S256x1024 .f32) : FVec Ideal S256x1024 .f32 :=
  select
    (broadcastTo S256x1024
      (shapeCast S256x1 (cmpi .ne (andi sh (broadcast S256x1 (BitVec.ofNat 32 (2 ^ i)))) (broadcast S256x1 0#32)) shapeCasts_S256x1_S256x1)
      broadcasts_S256x1_S256x1024)
    (dynamicRotate 1 (BitVec.ofNat 32 (1024 - 2 ^ i)) none x rotates_S256x1024_d1) x

/-- The first `n` steps of the barrel shift. -/
def hops (sh : IVec S256x1 32) (x : FVec Ideal S256x1024 .f32) : ℕ → FVec Ideal S256x1024 .f32
  | 0 => x
  | n + 1 => hop n sh (hops sh x n)

/-- A word masked with `2 ^ i` is nonzero exactly when its bit `i` is set. -/
theorem ne_mask (v : BitVec 32) (i : ℕ) (hi : i < 10) :
    IntOp.cmpi .ne (IntOp.andi v (BitVec.ofNat 32 (2 ^ i))) 0#32 = BitVec.ofBool (v.toNat.testBit i) := by
  have hp : 2 ^ i < 2 ^ 32 := Nat.pow_lt_pow_right (by omega) (by omega)
  rw [WordCmp.cmpi_ne_eq_toNat]
  congr 1
  rw [show (IntOp.andi v (BitVec.ofNat 32 (2 ^ i))).toNat = v.toNat &&& (BitVec.ofNat 32 (2 ^ i)).toNat from BitVec.toNat_and ..,
    WordCmp.toNat_ofNat_of_lt hp, Nat.and_two_pow]
  have : 0 < 2 ^ i := Nat.two_pow_pos i
  cases v.toNat.testBit i <;> simp

/-- One step read at a row and column. -/
theorem hop_at (i : ℕ) (hi : i < 10) (sh : IVec S256x1 32) (x : FVec Ideal S256x1024 .f32) (r : Fin 256) (j : Fin 1024) :
    hop i sh x (ix2 r j) = x (ix2 r ⟨(j.val + 2 ^ i * ((sh (ix2 r 0)).toNat.testBit i).toNat) % 1024, Nat.mod_lt _ (by omega)⟩) := by
  have hp : 2 ^ i ≤ 2 ^ 9 := Nat.pow_le_pow_right (by omega) (by omega)
  have hp0 : 0 < 2 ^ i := Nat.two_pow_pos i
  have hn : (BitVec.ofNat 32 (1024 - 2 ^ i)).toNat = 1024 - 2 ^ i := WordCmp.toNat_ofNat_of_lt (by omega)
  pointwise [hop]
  simp only [hn, ne_mask _ i hi]
  cases (sh (ix2 r 0)).toNat.testBit i
  · refine (if_neg (by decide)).trans (congrArg x (congrArg (ix2 r) (Fin.ext ?_)))
    show j.val = (j.val + 2 ^ i * 0) % 1024
    omega
  · refine (if_pos (by decide)).trans (congrArg x (congrArg (ix2 r) (Fin.ext ?_)))
    show (j.val + 1024 - (1024 - 2 ^ i) % 1024) % 1024 = (j.val + 2 ^ i * 1) % 1024
    omega

/-- The first `n` steps together rotate row `r` by its shift word modulo `2 ^ n`. -/
theorem hops_at (sh : IVec S256x1 32) (x : FVec Ideal S256x1024 .f32) (r : Fin 256) (n : ℕ) (hn : n ≤ 10) (j : Fin 1024) :
    hops sh x n (ix2 r j) = x (ix2 r ⟨(j.val + (sh (ix2 r 0)).toNat % 2 ^ n) % 1024, Nat.mod_lt _ (by omega)⟩) := by
  induction n generalizing j with
  | zero =>
    refine congrArg x (congrArg (ix2 r) (Fin.ext ?_))
    show j.val = (j.val + (sh (ix2 r 0)).toNat % 2 ^ 0) % 1024
    omega
  | succ n ih =>
    refine (hop_at n (by omega) sh _ r j).trans ((ih (by omega) _).trans (congrArg x (congrArg (ix2 r) (Fin.ext ?_))))
    show ((j.val + 2 ^ n * ((sh (ix2 r 0)).toNat.testBit n).toNat) % 1024 + (sh (ix2 r 0)).toNat % 2 ^ n) % 1024
      = (j.val + (sh (ix2 r 0)).toNat % 2 ^ (n + 1)) % 1024
    rw [Nat.toNat_testBit, pow_succ, Nat.mod_mul]
    omega

end Cert.KernelIdeal.Roll
end
-- ==== Proof.Payload.lean ====
module

public import proofs.«01_k».proof.Proof.Roll

@[expose] public section

set_option maxRecDepth 16384

noncomputable section

namespace Cert.KernelIdeal.Payload

open Cert.KernelIdeal Cert.KernelIdeal.Gen Idealize.ShloMosaic Idealize.ShloMosaic.TcCoe
open Cert.KernelIdeal.Roll Cert.Spectrum

/-- The backward head before the roll: the row block times the reversed weights, plus the reversed
    bias. -/
def base (x : FVec Ideal S256x4096 .f32) (w : FVec Ideal S4096x1024 .bf16) (b : FVec Ideal S1x1024 .f32) : FVec Ideal S256x1024 .f32 :=
  addf (matmul dot_S256x4096_S4096x1024_S256x1024_1_0_0_1_n_n none (k0_pay17 x) w (constant S256x1024 .f32 0x00000000#32))
    (broadcastTo S256x1024 b broadcasts_S1x1024_S256x1024)

/-- A forward head of the kernel: the row block times a weight array, plus its bias. -/
def head (x : FVec Ideal S256x4096 .bf16) (w : FVec Ideal S4096x1000 .bf16) (b : FVec Ideal S1000 .f32) : FVec Ideal S256x1000 .f32 :=
  addf (matmul dot_S256x4096_S4096x1000_S256x1000_1_0_0_1_n_n none x w (constant S256x1000 .f32 0x00000000#32))
    (broadcastTo S256x1000 (shapeCast S1x1000 b shapeCasts_S1000_S1x1000) broadcasts_S1x1000_S256x1000)

/-- The gated mix of a forward head `f` and the first 1000 columns of `y`, with gate logits `g`. -/
def mix (g f : FVec Ideal S256x1000 .f32) (y : FVec Ideal S256x1024 .f32) : FVec Ideal S256x1000 .f32 :=
  addf (mulf (logistic g) f)
    (mulf (subf (broadcast S256x1000 (Scalar.ofBits .f32 0x3F800000#32)) (logistic g))
      (extractStridedSlice S256x1000 ![0, 0] y slices_S256x1024_o0_0_S256x1000))

/-- The kernel's unmasked value is the gated mix of its heads with all ten steps of the shift. -/
theorem mix_eq (x : FVec Ideal S256x4096 .f32) (w : FVec Ideal S4096x1024 .bf16) (b : FVec Ideal S1x1024 .f32) (mw : Vec Ideal S256x1 .f32)
    (wf wg : FVec Ideal S4096x1000 .bf16) (bf bg : FVec Ideal S1000 .f32) :
    k0_pay25 (k0_pay17 x) (k0_pay19 mw) (k0_pay21 (k0_pay19 mw) (k0_pay20 x w b mw)) (k0_pay22 (k0_pay19 mw) (k0_pay20 x w b mw))
        (k0_pay23 (k0_pay19 mw)) wf bf wg bg
      = mix (head (k0_pay17 x) wg bg) (head (k0_pay17 x) wf bf) (hops (k0_pay19 mw) (base x w b) 10) := rfl

/-- The reversal matrix: one where row and column add up to 999, zero elsewhere. -/
theorem flip_at (r : Fin 1000) (j : Fin 1024) : k0_pay3 (F := Ideal) (ix2 r j) = if r.val + j.val = 999 then (1 : EReal) else 0 := by
  pointwise [k0_pay3]
  rw [WordCmp.cmpi_eq_eq_toNat, show (IntOp.addi (BitVec.ofNat 32 r.val) (BitVec.ofNat 32 j.val)).toNat = r.val + j.val by
    rw [show IntOp.addi (BitVec.ofNat 32 r.val) (BitVec.ofNat 32 j.val) = BitVec.ofNat 32 (r.val + j.val) from (BitVec.ofNat_add ..).symm,
      WordCmp.toNat_ofNat_of_lt (by omega)]]
  by_cases h : r.val + j.val = 999
  · rw [if_pos h, h]
    show (((BitVec.setWidth 32 (BitVec.ofBool true)).toInt : ℝ) : EReal) = 1
    rw [show (BitVec.setWidth 32 (BitVec.ofBool true)).toInt = 1 by decide, Int.cast_one, EReal.coe_one]
  · rw [if_neg h, show decide (r.val + j.val = (999#32).toNat) = false from decide_eq_false h]
    show (((BitVec.setWidth 32 (BitVec.ofBool false)).toInt : ℝ) : EReal) = 0
    rw [show (BitVec.setWidth 32 (BitVec.ofBool false)).toInt = 0 by decide, Int.cast_zero, EReal.coe_zero]

/-- The backward head before the roll, at a row and column. -/
theorem base_at (x : FVec Ideal S256x4096 .f32) (w : FVec Ideal S4096x1024 .bf16) (b : FVec Ideal S1x1024 .f32) (r : Fin 256) (j : Fin 1024) :
    base x w b (ix2 r j) = ∑ k : Fin 4096, (x (ix2 r k) : EReal) * w (ix2 k j) + b (ix2 0 j) := by
  pointwise [base, k0_pay17]

/-- A forward head at a row and column. -/
theorem head_at (x : FVec Ideal S256x4096 .f32) (w : FVec Ideal S4096x1000 .bf16) (b : FVec Ideal S1000 .f32) (r : Fin 256) (j : Fin 1000) :
    head (k0_pay17 x) w b (ix2 r j) = ∑ k : Fin 4096, (x (ix2 r k) : EReal) * w (ix2 k j) + b (ix1 j) := by
  pointwise [head, k0_pay17]

/-- The gated mix at a row and column. -/
theorem mix_at (g f : FVec Ideal S256x1000 .f32) (y : FVec Ideal S256x1024 .f32) (r : Fin 256) (j : Fin 1000) :
    mix g f y (ix2 r j) = Ideal.logistic (g (ix2 r j)) * f (ix2 r j) + (1 - Ideal.logistic (g (ix2 r j))) * y (ix2 r (Fin.castLE (by decide) j)) := by
  pointwise [mix]
  rfl

/-- The kernel's shift word of a row is the clipped shift of that row's rounded mass. -/
theorem shift_at (mw : Vec Ideal S256x1 .f32) (r : Fin 256) : k0_pay19 mw (ix2 r 0) = shiftWord (massWord (mw (ix2 r 0))) := by
  pointwise [k0_pay19, k0_pay18]
  rfl

/-- A sum against a column of the reversal matrix picks the entry of the mirrored row. -/
theorem sum_flip (f : Fin 1000 → EReal) (j : Fin 1024) (b : Fin 1000) (h : b.val + j.val = 999) :
    ∑ i : Fin 1000, f i * k0_pay3 (F := Ideal) (ix2 i j) = f b := by
  rw [Finset.sum_eq_single b]
  · rw [flip_at, if_pos h, mul_one]
  · intro i _ hi
    rw [flip_at, if_neg (fun e => hi (Fin.ext (by omega))), mul_zero]
  · exact fun e => absurd (Finset.mem_univ b) e

/-- The reversed bias at the column that mirrors `b`. -/
theorem bias_at (v : Vec Ideal S1000 .f32) (j : Fin 1024) (b : Fin 1000) (h : b.val + j.val = 999) :
    k0_pay4 v (ix2 0 j) = v (ix1 b) := by
  refine Eq.trans ?_ (sum_flip (fun i => v (ix1 i)) j b h)
  pointwise [k0_pay4]

/-- The column mask: up to the last reachable column the value stays, beyond it the filler. -/
theorem mask_at (mw : Vec Ideal S256x1 .f32) (v : FVec Ideal S256x1000 .f32) (r : Fin 256) (c : Fin 1000)
    (hT : (massWord (mw (ix2 r 0))).toInt ≤ 994) :
    k0_pay1 (k0_pay24 (k0_pay18 mw)) v (FloatOps.ofBits FTy.f32 0#32) (ix2 r c)
      = if (c.val : ℤ) ≤ last (mw (ix2 r 0)) then v (ix2 r c) else 0 := by
  pointwise [k0_pay1, k0_pay24, k0_pay18]
  refine (congrArg (fun b => Scalar.select b (v (ix2 r c)) (0 : EReal)) (sle_last hT c)).trans ?_
  unfold last
  by_cases h : (c.val : ℤ) ≤ (massWord (mw (ix2 r 0))).toInt + 5
  · rw [if_pos h, decide_eq_true h]; exact if_pos (by decide)
  · rw [if_neg h, decide_eq_false h]; exact if_neg (by decide)

/-- Where column `c` is reachable, the shifted backward head there is the backward head at the last
    reachable column minus `c`. -/
theorem back_at (x : FVec Ideal S256x4096 .f32) (mw : Vec Ideal S256x1 .f32) (bb : Vec Ideal S1000 .f32)
    (wb : Vec Ideal S4096x1000 .f32) (w : FVec Ideal S4096x1024 .bf16)
    (hw : ∀ (k : Fin 4096) (j : Fin 1024), w (ix2 k j) = ∑ i : Fin 1000, (wb (ix2 k i) : EReal) * k0_pay3 (F := Ideal) (ix2 i j))
    (r : Fin 256) (c : Fin 1000) (hT : (massWord (mw (ix2 r 0))).toInt ≤ 994) (hc : (c.val : ℤ) ≤ last (mw (ix2 r 0))) :
    hops (k0_pay19 mw) (base x w (k0_pay4 bb)) 10 (ix2 r (Fin.castLE (by decide) c))
      = lin (fun k => x (ix2 r k)) (fun k j => wb (ix2 k j)) (fun j => bb (ix1 j)) (Fin.ofNat 1000 (last (mw (ix2 r 0)) - c.val).toNat) := by
  unfold last at hc ⊢
  have hs := toNat_shiftWord hT (by omega)
  rw [← shift_at mw r] at hs
  refine (hops_at _ _ r 10 le_rfl _).trans ?_
  generalize hJ : (⟨_, _⟩ : Fin 1024) = J
  replace hJ : (c.val + (k0_pay19 mw (ix2 r 0)).toNat % 2 ^ 10) % 1024 = J.val := congrArg Fin.val hJ
  generalize hB : Fin.ofNat 1000 _ = b
  replace hB : ((massWord (mw (ix2 r 0))).toInt + 5 - c.val).toNat % 1000 = b.val := congrArg Fin.val hB
  have hbJ : b.val + J.val = 999 := by omega
  rw [base_at, bias_at bb J b hbJ]
  refine congrArg (· + bb (ix1 b)) (Finset.sum_congr rfl fun k _ => ?_)
  rw [hw, sum_flip (fun i => wb (ix2 k i)) J b hbJ]

/-- The kernel's raw block at a row and column, over scratch contents that hold the weights and
    the reversed backward weights and bias, is the gated spectrum. -/
theorem raw_at (x : Vec Ideal S256x4096 .f32) (mw : Vec Ideal S256x1 .f32) (bf bb bg : Vec Ideal S1000 .f32)
    (wf : Vec Ideal S4096x1000 .bf16) (wb : Vec Ideal S4096x1000 .f32) (wg : Vec Ideal S4096x1000 .bf16) (w : Vec Ideal S4096x1024 .bf16)
    (hw : ∀ (k : Fin 4096) (j : Fin 1024), w (ix2 k j) = ∑ i : Fin 1000, (wb (ix2 k i) : EReal) * k0_pay3 (F := Ideal) (ix2 i j))
    (r : Fin 256) (c : Fin 1000) (hT : (massWord (mw (ix2 r 0))).toInt ≤ 994) :
    k0_pay1 (k0_pay24 (k0_pay18 mw))
        (k0_pay25 (k0_pay17 x) (k0_pay19 mw) (k0_pay21 (k0_pay19 mw) (k0_pay20 x w (k0_pay4 bb) mw)) (k0_pay22 (k0_pay19 mw) (k0_pay20 x w (k0_pay4 bb) mw))
          (k0_pay23 (k0_pay19 mw)) wf bf wg bg)
        (FloatOps.ofBits FTy.f32 0#32) (ix2 r c)
      = raw (fun k => x (ix2 r k)) (mw (ix2 r 0))
          ⟨fun k j => wf (ix2 k j), fun j => bf (ix1 j), fun k j => wb (ix2 k j), fun j => bb (ix1 j), fun k j => wg (ix2 k j), fun j => bg (ix1 j)⟩ c := by
  refine (mask_at mw _ r c hT).trans ?_
  unfold raw
  by_cases hc : (c.val : ℤ) ≤ last (mw (ix2 r 0))
  · rw [if_pos hc, if_pos hc, mix_eq, mix_at, head_at, head_at, back_at x mw bb wb w hw r c hT hc]
    rfl
  · rw [if_neg hc, if_neg hc]

end Cert.KernelIdeal.Payload
end
-- ==== Proof.Prep.lean ====
module

public import proofs.«01_k».proof.Proof.Gen.KernelIdeal.Value
public import proofs.«01_k».proof.Proof.Payload
public import Idealize.ShloMosaic.Lib.Pipeline.ReadBack

@[expose] public section

set_option maxRecDepth 16384

noncomputable section

namespace Cert.KernelIdeal.Prep

open Cert.KernelIdeal Cert.KernelIdeal.Gen Idealize.ShloMosaic Idealize.ShloMosaic.TcCoe Idealize.SL.Sem

variable (m : (ℓ : Loc nD τ sig) → Buf (Elt Ideal) ℓ)

/-- Where every window's block sits at each grid point. -/
theorem idx : ∀ t : Fin cfg0.N, win0_0.index t = ![t.val, 0] ∧ win0_1.index t = ![t.val, 0] ∧ win0_2.index t = ![0] ∧ win0_3.index t = ![0]
    ∧ win0_4.index t = ![0] ∧ win0_5.index t = ![t.val, 0] ∧ win0_6.index t = ![t.val, 0] :=
  (by decide +kernel : ∀ t : Fin grid0.N, _)

/-- The backward weights in memory. -/
abbrev backwardW (c : Dev nD) : Vec Ideal S4096x1000 .f32 := m ((c : Thread nD τ).loc main_arg4)

/-- The kernel's raw block over a row block, its masses, the biases, the weights in scratch and the
    reversed backward weights and bias. -/
def rawBlock (x : Vec Ideal S256x4096 .f32) (mw : Vec Ideal S256x1 .f32) (bf bg : Vec Ideal S1000 .f32)
    (wf wg : Vec Ideal S4096x1000 .bf16) (w : Vec Ideal S4096x1024 .bf16) (b : Vec Ideal S1x1024 .f32) : FVec Ideal S256x1000 .f32 :=
  k0_pay1 (k0_pay24 (k0_pay18 mw))
    (k0_pay25 (k0_pay17 x) (k0_pay19 mw) (k0_pay21 (k0_pay19 mw) (k0_pay20 x w b mw)) (k0_pay22 (k0_pay19 mw) (k0_pay20 x w b mw))
      (k0_pay23 (k0_pay19 mw)) wf bf wg bg)
    (FloatOps.ofBits FTy.f32 0#32)

/-- A whole load of a landing buffer reads the last copy that landed in it, whatever landed before. -/
theorem landed {κ : Kind} {sp : Space} {s : Shape} {e : EltTy} (v : View sig κ sp s e) (w : s.Idx → Elt Ideal e)
    (L : List (View.Piece (Elt Ideal) s e)) {off : Fin s.rank → ℕ} (inb : ∀ a, off a + s.size a ≤ s.size a) :
    v.readCov (⟨Rect.whole s, w⟩ :: L) (Rect.unit off s.size inb).toLoadRect = w := by
  obtain rfl : off = fun _ => 0 := funext fun a => by have := inb a; omega
  exact View.readCov_cons_toLoadRect v (Rect.whole s) w L

/-- A load of a whole buffer reads what the stores before it left. -/
theorem reload {κ : Kind} {sp : Space} {s : Shape} {e : EltTy} (v : View sig κ sp s e)
    (L : List (View.Piece (Elt Ideal) s e)) {off : Fin s.rank → ℕ} (inb : ∀ a, off a + s.size a ≤ s.size a) :
    v.readCov L (Rect.unit off s.size inb).toLoadRect = View.canon (Val := Elt Ideal) (s := s) (e := e) L := by
  obtain rfl : off = fun _ => 0 := funext fun a => by have := inb a; omega
  rw [View.readCov_eq_canon']
  funext j
  exact congrArg (View.canon L) (funext fun a => Fin.ext (by show 0 + 1 * (j a).val = (j a).val; omega))

/-- A slab of 1024 rows of a weight array, read at `x`, is the array at the row and column where `x` sits. -/
theorem slab (X : S4096x1000.Idx → EReal) (off : Fin 2 → ℕ) (inb : ∀ a : Fin 2, off a + ![1024, 1000] a ≤ S4096x1000.size a)
    (x : S1024x1000.Idx) (y : S4096x1000.Idx) (e0 : (y 0).val = off 0 + (x 0).val) (e1 : (y 1).val = off 1 + (x 1).val) :
    X ((Rect.unit (s := S4096x1000) off ![1024, 1000] inb).emb x) = X y :=
  congrArg X (funext fun a => Fin.ext (by
    match a with
    | ⟨0, _⟩ => show off 0 + 1 * (x 0).val = (y 0).val; omega
    | ⟨1, _⟩ => show off 1 + 1 * (x 1).val = (y 1).val; omega))

/-- A slab of the backward product at a row and column: a row of the slab against a column of `J`. -/
theorem product_at (J : FVec Ideal S1000x1024 .bf16) (b : Vec Ideal S1024x1000 .bf16) (x : S1024x1024.Idx) :
    k0_pay9 J b x = ∑ i : Fin 1000, (b (ix2 (x 0) i) : EReal) * J (ix2 i (x 1)) := by
  idx_vars x
  pointwise [k0_pay9]

/-- At the first point the forward scratch holds the forward weights. -/
theorem first_forward (c : Dev nD) (t : Fin cfg0.N) (h0 : t.val % 16 = 0) (y : S4096x1000.Idx) :
    (outsAt0 m c t.val t.isLt).2.2.1 y = m ((c : Thread nD τ).loc main_arg2) y := by
  rw [outsAt0_A m c t h0]
  frame_out
  clear h0
  canon_tiles x h
  all_goals
    pointwise [k0_pay5, k0_pay6, k0_pay7, k0_pay8]
    rw [landed]
    exact slab (V m c main_arg2) _ _ x y (by simpa using h0) (by simpa using h1)

/-- At the first point the gate scratch holds the gate weights. -/
theorem first_gate (c : Dev nD) (t : Fin cfg0.N) (h0 : t.val % 16 = 0) (y : S4096x1000.Idx) :
    (outsAt0 m c t.val t.isLt).2.2.2.2.1 y = m ((c : Thread nD τ).loc main_arg6) y := by
  rw [outsAt0_A m c t h0]
  frame_out
  clear h0
  canon_tiles x h
  all_goals
    pointwise [k0_pay13, k0_pay14, k0_pay15, k0_pay16]
    rw [landed]
    exact slab (V m c main_arg6) _ _ x y (by simpa using h0) (by simpa using h1)

/-- At the first point the backward scratch holds the backward weights times the reversal matrix. -/
theorem first_backward (c : Dev nD) (t : Fin cfg0.N) (h0 : t.val % 16 = 0) (y : S4096x1024.Idx) :
    (outsAt0 m c t.val t.isLt).2.2.2.1 y
      = ∑ i : Fin 1000, (backwardW m c (ix2 (y 0) i) : EReal) * k0_pay3 (F := Ideal) (ix2 i (y 1)) := by
  rw [outsAt0_A m c t h0]
  frame_out
  clear h0
  canon_tiles x h
  all_goals
    rw [landed]
    refine (product_at _ _ x).trans (Finset.sum_congr rfl fun i _ => congrArg₂ (· * ·) ?_ (congrArg _ (congrArg (ix2 i) (Fin.ext ?_))))
    · exact slab (V m c main_arg4) _ _ (ix2 (x 0) i) (ix2 (y 0) i) (by simpa using h0) (by simp)
    · exact h1.symm

/-- At the first point the bias scratch holds the reversed backward bias. -/
theorem first_bias (c : Dev nD) (t : Fin cfg0.N) (h0 : t.val % 16 = 0) :
    (outsAt0 m c t.val t.isLt).2.2.2.2.2 = k0_pay4 (iblk m c 3 t) := by
  rw [outsAt0_A m c t h0]
  frame_out

/-- The block of the backward bias is the whole bias at every point. -/
theorem bias_block (c : Dev nD) (t : Fin cfg0.N) : iblk m c 3 t = m ((c : Thread nD τ).loc main_arg5) := by
  blk_ext! [iblk, V, idx t]

/-- What a point needs of the scratch: the forward and gate weights, and the backward weights and
    bias with their columns reversed. -/
def Ready (c : Dev nD) (n : ℕ) (hn : n < cfg0.N) : Prop :=
  (outsAt0 m c n hn).2.2.1 = m ((c : Thread nD τ).loc main_arg2)
    ∧ (outsAt0 m c n hn).2.2.2.1 = (fun y => ∑ i : Fin 1000, (backwardW m c (ix2 (y 0) i) : EReal) * k0_pay3 (F := Ideal) (ix2 i (y 1)))
    ∧ (outsAt0 m c n hn).2.2.2.2.1 = m ((c : Thread nD τ).loc main_arg6)
    ∧ (outsAt0 m c n hn).2.2.2.2.2 = k0_pay4 (m ((c : Thread nD τ).loc main_arg5))

/-- The first point makes the scratch ready and every later point keeps it. -/
theorem ready (c : Dev nD) (n : ℕ) (hn : n < cfg0.N) : Ready m c n hn := by
  induction n with
  | zero =>
    have h0 : (⟨0, hn⟩ : Fin cfg0.N).val % 16 = 0 := rfl
    exact ⟨funext (first_forward m c ⟨0, hn⟩ h0), funext (first_backward m c ⟨0, hn⟩ h0), funext (first_gate m c ⟨0, hn⟩ h0),
      (first_bias m c ⟨0, hn⟩ h0).trans (congrArg k0_pay4 (bias_block m c ⟨0, hn⟩))⟩
  | succ n ih =>
    have hN : cfg0.N = 16 := N_0
    have h0 : ¬(⟨n + 1, hn⟩ : Fin cfg0.N).val % 16 = 0 := by show ¬(n + 1) % 16 = 0; omega
    have e := outsAt0_B m c ⟨n + 1, hn⟩ h0
    obtain ⟨i0, i1, i2, i3⟩ := ih (Nat.lt_of_succ_lt hn)
    exact ⟨(congrArg (fun o => o.2.2.1) e).trans i0, (congrArg (fun o => o.2.2.2.1) e).trans i1,
      (congrArg (fun o => o.2.2.2.2.1) e).trans i2, (congrArg (fun o => o.2.2.2.2.2) e).trans i3⟩

/-- What the first point leaves in its two output buffers, over the prepared weights: the raw block,
    and that block clipped below at zero. -/
theorem first_left (c : Dev nD) (t : Fin cfg0.N) (h0 : t.val % 16 = 0) (w : Vec Ideal S4096x1024 .bf16)
    (hw : (outsAt0 m c t.val t.isLt).2.2.2.1 = w) (R : FVec Ideal S256x1000 .f32)
    (hR : R = rawBlock (iblk m c 0 t) (iblk m c 1 t) (iblk m c 2 t) (iblk m c 4 t) (m ((c : Thread nD τ).loc main_arg2)) (m ((c : Thread nD τ).loc main_arg6))
          w (k0_pay4 (iblk m c 3 t))) :
    (outsAt0 m c t.val t.isLt).2.1 = R
      ∧ (outsAt0 m c t.val t.isLt).1 = maximumf R (broadcast S256x1000 (Scalar.ofBits .f32 0x00000000#32)) := by
  have e0 := funext (first_forward m c t h0)
  have e2 := funext (first_gate m c t h0)
  rw [outsAt0_A m c t h0] at e0 e2 hw ⊢
  frame_out at e0
  frame_out at e2
  frame_out at hw
  frame_out
  rw [reload (s := S4096x1000) (View.whole cc0_scratch0), e0, reload (s := S4096x1024) (View.whole cc0_scratch1), hw, reload (s := S4096x1000) (View.whole cc0_scratch2), e2,
    hR]
  exact ⟨rfl, rfl⟩

end Cert.KernelIdeal.Prep
end
-- ==== Proof.Value.lean ====
module

public import proofs.«01_k».proof.Proof.Prep

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.KernelIdeal.Prep Cert.KernelIdeal.Payload Cert.Spectrum

variable (m : (ℓ : Loc nD τ sig) → Buf (Elt Ideal) ℓ)

/-- The backward weights times the reversal matrix. -/
def flipped (c : Dev nD) : Vec Ideal S4096x1024 .bf16 :=
  fun y => ∑ i : Fin 1000, (backwardW m c (ix2 (y 0) i) : EReal) * k0_pay3 (F := Ideal) (ix2 i (y 1))

/-- The raw block of a point, from the blocks it loads and the arguments. -/
def rawOf (c : Dev nD) (t : Fin cfg0.N) : FVec Ideal S256x1000 .f32 :=
  rawBlock (iblk m c 0 t) (iblk m c 1 t) (iblk m c 2 t) (iblk m c 4 t) (m ((c : Thread nD τ).loc main_arg2)) (m ((c : Thread nD τ).loc main_arg6))
    (flipped m c) (k0_pay4 (iblk m c 3 t))

/-- Every point leaves its raw block in the raw buffer, and that block clipped below at zero in the
    prediction buffer. -/
theorem left (c : Dev nD) (t : Fin cfg0.N) : (outsAt0 m c t.val t.isLt).2.1 = rawOf m c t
    ∧ (outsAt0 m c t.val t.isLt).1 = maximumf (rawOf m c t) (broadcast S256x1000 (Scalar.ofBits .f32 0x00000000#32)) := by
  by_cases h0 : t.val % 16 = 0
  · exact first_left m c t h0 _ (funext (first_backward m c t h0)) _ rfl
  · obtain ⟨i0, i1, i2, i3⟩ := ready m c (t.val - 1) (Nat.lt_of_le_of_lt (Nat.sub_le _ _) t.isLt)
    rw [outsAt0_B m c t h0, i0, i1, i2, i3]
    frame_out
    simp only [read_unread_whole]
    rw [← bias_block m c t]
    exact ⟨rfl, rfl⟩

/-- The six weight arrays in memory. -/
def params (c : Dev nD) : Params where
  Wf k j := (show Vec Ideal S4096x1000 .f32 from m ((c : Thread nD τ).loc main_arg2)) (ix2 k j)
  bf j := (show Vec Ideal S1000 .f32 from m ((c : Thread nD τ).loc main_arg3)) (ix1 j)
  Wb k j := (show Vec Ideal S4096x1000 .f32 from m ((c : Thread nD τ).loc main_arg4)) (ix2 k j)
  bb j := (show Vec Ideal S1000 .f32 from m ((c : Thread nD τ).loc main_arg5)) (ix1 j)
  Wg k j := (show Vec Ideal S4096x1000 .f32 from m ((c : Thread nD τ).loc main_arg6)) (ix2 k j)
  bg j := (show Vec Ideal S1000 .f32 from m ((c : Thread nD τ).loc main_arg7)) (ix1 j)

/-- The fingerprint array in memory. -/
abbrev prints (c : Dev nD) : Vec Ideal S4096x4096 .f32 := m ((c : Thread nD τ).loc main_arg0)

/-- The mass column in memory. -/
abbrev masses (c : Dev nD) : Vec Ideal S4096x1 .f32 := m ((c : Thread nD τ).loc main_arg1)

/-- The gated spectra of all molecules. -/
def spectra (c : Dev nD) : S4096x1000.Idx → EReal := fun y =>
  raw (fun k => prints m c (ix2 (y 0) k)) (masses m c (ix2 (y 0) 0)) (params m c) (y 1)

/-- The gated spectra of all molecules, clipped below at zero. -/
def predicted (c : Dev nD) : S4096x1000.Idx → EReal := fun y => max (spectra m c y) 0

/-- The 256 fingerprints a point loads. -/
def printBlock (c : Dev nD) (t : Fin cfg0.N) : Vec Ideal S256x4096 .f32 := iblk m c 0 t

/-- The 256 masses a point loads. -/
def massBlock (c : Dev nD) (t : Fin cfg0.N) : Vec Ideal S256x1 .f32 := iblk m c 1 t

/-- A point's fingerprints are rows of the fingerprint array. -/
theorem printBlock_at (c : Dev nD) (t : Fin cfg0.N) (r : Fin 256) (k : Fin 4096) (R : Fin 4096) (hR : R.val = t.val * 256 + r.val) :
    printBlock m c t (ix2 r k) = prints m c (ix2 R k) := by
  unfold printBlock
  blk_ext! [iblk, V, idx t]

/-- A point's masses are rows of the mass column. -/
theorem massBlock_at (c : Dev nD) (t : Fin cfg0.N) (r : Fin 256) (R : Fin 4096) (hR : R.val = t.val * 256 + r.val) :
    massBlock m c t (ix2 r 0) = masses m c (ix2 R 0) := by
  unfold massBlock
  blk_ext! [iblk, V, idx t]

/-- The block of the forward bias is the whole bias at every point. -/
theorem forward_bias_block (c : Dev nD) (t : Fin cfg0.N) : iblk m c 2 t = m ((c : Thread nD τ).loc main_arg3) := by
  blk_ext! [iblk, V, idx t]

/-- The block of the gate bias is the whole bias at every point. -/
theorem gate_bias_block (c : Dev nD) (t : Fin cfg0.N) : iblk m c 4 t = m ((c : Thread nD τ).loc main_arg7) := by
  blk_ext! [iblk, V, idx t]

/-- The raw block of a point over its fingerprints, its masses and the arguments. -/
theorem rawOf_eq (c : Dev nD) (t : Fin cfg0.N) : rawOf m c t
    = rawBlock (printBlock m c t) (massBlock m c t) (m ((c : Thread nD τ).loc main_arg3)) (m ((c : Thread nD τ).loc main_arg7))
        (m ((c : Thread nD τ).loc main_arg2)) (m ((c : Thread nD τ).loc main_arg6)) (flipped m c) (k0_pay4 (m ((c : Thread nD τ).loc main_arg5))) := by
  unfold rawOf
  rw [forward_bias_block, gate_bias_block, bias_block]
  rfl

/-- The raw block of a point is its 256 rows of the gated spectra. -/
theorem rawOf_at (c : Dev nD) (hT : ∀ r : Fin 4096, (massWord (masses m c (ix2 r 0))).toInt ≤ 994) (t : Fin cfg0.N) (r : Fin 256) (j : Fin 1000)
    (R : Fin 4096) (hR : R.val = t.val * 256 + r.val) : rawOf m c t (ix2 r j) = spectra m c (ix2 R j) := by
  have hm := massBlock_at m c t r R hR
  have hx : (fun k => printBlock m c t (ix2 r k)) = fun k => prints m c (ix2 R k) := funext fun k => printBlock_at m c t r k R hR
  rw [rawOf_eq]
  refine (raw_at _ _ _ _ _ _ (backwardW m c) _ (flipped m c) (fun k j => rfl) r j (by rw [hm]; exact hT R)).trans ?_
  rw [hm, hx]
  rfl

/-- Entry `y` of the block of the raw window at a point is the gated spectrum where the entry sits. -/
theorem rawOf_emb (c : Dev nD) (hT : ∀ r : Fin 4096, (massWord (masses m c (ix2 r 0))).toInt ≤ 994) (t : Fin cfg0.N) (y : S256x1000.Idx)
    (i : S4096x1000.Idx) (h0 : (i 0).val = t.val * 256 + (y 0).val) (h1 : (i 1).val = (y 1).val) : rawOf m c t y = spectra m c i := by
  idx_vars y
  refine (rawOf_at m c hT t _ _ (i 0) h0).trans (congrArg (spectra m c) (funext fun a => Fin.ext ?_))
  match a with
  | ⟨0, _⟩ => rfl
  | ⟨1, _⟩ => exact h1.symm

/-- The raw result array after the run. -/
theorem final_raw (c : Dev nD) (hT : ∀ r : Fin 4096, (massWord (masses m c (ix2 r 0))).toInt ≤ 994) :
    (dats m 0 c).arrAt 6 cfg0.N = spectra m c := by
  refine (dats m 0 c).arrAt_eq_of_covers 6 (spectra m c) (by decide +kernel) fun t _ y => ?_
  blk_simp
  rw [after0_6, (left m c t).1]
  exact rawOf_emb m c hT t y _ (by blk_simp [idx t]) (by blk_simp [idx t])

/-- The prediction result array after the run: the raw spectra clipped below at zero. -/
theorem final_pred (c : Dev nD) (hT : ∀ r : Fin 4096, (massWord (masses m c (ix2 r 0))).toInt ≤ 994) :
    (dats m 0 c).arrAt 5 cfg0.N = predicted m c := by
  refine (dats m 0 c).arrAt_eq_of_covers 5 (predicted m c) (by decide +kernel) fun t _ y => ?_
  blk_simp
  rw [after0_5, (left m c t).2]
  have e := rawOf_emb m c hT t y ((win0_5.blk t).view.emb y) (by blk_simp [idx t]) (by blk_simp [idx t])
  show max (rawOf m c t y) (Ideal.ofBits .f32 0#32) = _
  rw [e, Ideal.ofBits_zero_f32]
  rfl

end Cert.KernelIdeal.Final
end
-- ==== Proof.Reference.lean ====
module

public import proofs.«01_k».proof.Proof.Gen.ReferenceIdeal.Run
public import proofs.«01_k».proof.Proof.Words
public import Idealize.ShloMosaic.Lib.Routing.OpsPair

@[expose] public section

set_option maxRecDepth 16384

noncomputable section

namespace Cert.ReferenceIdeal.Closed

open Cert.ReferenceIdeal Cert.ReferenceIdeal.Gen Idealize.ShloMosaic Idealize.ShloMosaic.TcCoe Idealize.SL.Sem
open Cert.Spectrum

/-- A linear head of the reference: the fingerprints times a weight array, plus its bias in every row. -/
def head (A : FVec Ideal S4096x4096 .f32) (W : FVec Ideal S4096x1000 .f32) (b : FVec Ideal S1000 .f32) : FVec Ideal S4096x1000 .f32 :=
  addf (Host.dotGeneral dot_S4096x4096_S4096x1000_S4096x1000_1_0_0_1_n_n none A W)
    (broadcastInDim S4096x1000 ![0, 1] bcast_S1x1000_S4096x1000_0_1 (broadcastInDim S1x1000 ![1] bcast_S1000_S1x1000_1 b))

/-- The reference's gate from its logits. -/
def gate (g : FVec Ideal S4096x1000 .f32) : FVec Ideal S4096x1000 .f32 :=
  Host.divf (broadcastInDim S4096x1000 ![] bcast_S_S4096x1000 (constant S_ .f32 0x3F800000#32))
    (addf (broadcastInDim S4096x1000 ![] bcast_S_S4096x1000 (constant S_ .f32 0x3F800000#32)) (Host.exp (Host.negf g)))

/-- The rounded masses as words. -/
def massWords (M : FVec Ideal S4096x1 .f32) : IVec S4096 32 :=
  fptosi 32 (Host.roundeven (shapeCast S4096 M shapeCasts_S4096x1_S4096))

/-- One where a column is at most the last reachable column of its row, zero elsewhere. -/
def mask (T : IVec S4096 32) : FVec Ideal S4096x1000 .f32 :=
  uitofp .f32 (cmpi .sle
    (broadcastInDim S4096x1000 ![0, 1] bcast_S1x1000_S4096x1000_0_1 (broadcastInDim S1x1000 ![1] bcast_S1000_S1x1000_1 (iotaInDim S1000 32 0)))
    (broadcastInDim S4096x1000 ![0, 1] bcast_S4096x1_S4096x1000_0_1
      (addi (broadcastInDim S4096x1 ![0] bcast_S4096_S4096x1_0 T) (broadcastInDim S4096x1 ![] bcast_S_S4096x1 (constantI S_ 32 5#32)))))

/-- The target column of every backward column, as a word. -/
def target (T : IVec S4096 32) : IVec S4096x1000 32 :=
  addi
    (subi (broadcastInDim S4096x1000 ![0, 1] bcast_S4096x1_S4096x1000_0_1 (broadcastInDim S4096x1 ![0] bcast_S4096_S4096x1_0 T))
      (broadcastInDim S4096x1000 ![0, 1] bcast_S1x1000_S4096x1000_0_1 (broadcastInDim S1x1000 ![1] bcast_S1000_S1x1000_1 (iotaInDim S1000 32 0))))
    (broadcastInDim S4096x1000 ![] bcast_S_S4096x1000 (constantI S_ 32 5#32))

/-- The target column clipped into the spectrum. -/
def clipped (d : IVec S4096x1000 32) : IVec S4096x1000 32 :=
  minsi (broadcastInDim S4096x1000 ![] bcast_S_S4096x1000 (id (constantI S_ 32 999#32)))
    (maxsi (broadcastInDim S4096x1000 ![] bcast_S_S4096x1000 (id (constantI S_ 32 0#32))) d)

/-- The row index the scatter reads, with a negative index taken from the end. -/
def rowIndex : IVec S4096x1 32 :=
  select (cmpi .slt (broadcastInDim S4096x1 ![0] bcast_S4096_S4096x1_0 (iotaInDim S4096 32 0)) (broadcastInDim S4096x1 ![] bcast_S_S4096x1 (constantI S_ 32 0#32)))
    (addi (broadcastInDim S4096x1 ![0] bcast_S4096_S4096x1_0 (iotaInDim S4096 32 0)) (broadcastInDim S4096x1 ![] bcast_S_S4096x1 (constantI S_ 32 4096#32)))
    (broadcastInDim S4096x1 ![0] bcast_S4096_S4096x1_0 (iotaInDim S4096 32 0))

/-- The column index the scatter reads, with a negative index taken from the end. -/
def colIndex (d : IVec S4096x1000 32) : IVec S4096x1000 32 :=
  select (cmpi .slt (clipped d) (broadcastInDim S4096x1000 ![] bcast_S_S4096x1000 (constantI S_ 32 0#32)))
    (addi (clipped d) (broadcastInDim S4096x1000 ![] bcast_S_S4096x1000 (constantI S_ 32 1000#32))) (clipped d)

/-- The index pairs of the scatter. -/
def pairs (d : IVec S4096x1000 32) : IVec S4096x1000x2 32 :=
  concatenate S4096x1000x2 2
    [⟨S4096x1000x1, broadcastInDim S4096x1000x1 ![0, 1] bcast_S4096x1000_S4096x1000x1_0_1
        (broadcastInDim S4096x1000 ![0, 1] bcast_S4096x1_S4096x1000_0_1 rowIndex)⟩,
      ⟨S4096x1000x1, broadcastInDim S4096x1000x1 ![0, 1] bcast_S4096x1000_S4096x1000x1_0_1 (colIndex d)⟩]
    concatenates_S4096x1000x1_S4096x1000x1_S4096x1000x2_d2

/-- The backward values whose target lies in the spectrum, the others zeroed. -/
def kept (d : IVec S4096x1000 32) (B : FVec Ideal S4096x1000 .f32) : FVec Ideal S4096x1000 .f32 :=
  select (andi (cmpi .sge d (broadcastInDim S4096x1000 ![] bcast_S_S4096x1000 (constantI S_ 32 0#32)))
      (cmpi .slt d (broadcastInDim S4096x1000 ![] bcast_S_S4096x1000 (constantI S_ 32 1000#32))))
    B (broadcastInDim S4096x1000 ![] bcast_S_S4096x1000 (constant S_ .f32 0x00000000#32))

/-- The backward values added up at their target columns. -/
def scattered (d : IVec S4096x1000 32) (B : FVec Ideal S4096x1000 .f32) : FVec Ideal S4096x1000 .f32 :=
  Host.scatterAdd scatter_S4096x1000_S4096x1000x2_S4096x1000_n_01_01_2
    (broadcastInDim S4096x1000 ![] bcast_S_S4096x1000 (constant S_ .f32 0x00000000#32)) (pairs d) (kept d B)

/-- The gated mix of the forward head `f`, masked, and the scattered backward values. -/
def mixed (g f k s : FVec Ideal S4096x1000 .f32) : FVec Ideal S4096x1000 .f32 :=
  addf (mulf (gate g) (mulf f k))
    (mulf (subf (broadcastInDim S4096x1000 ![] bcast_S_S4096x1000 (constant S_ .f32 0x3F800000#32)) (gate g)) s)

/-- The reference's raw result is the mix of its parts. -/
theorem raw_eq (m : (ℓ : Loc nD τ sig) → Buf (Elt Ideal) ℓ) (c : Dev nD) :
    Value.res_main_v72 m c
      = mixed (head (m ((c.tc : Thread nD τ).loc main_arg0)) (m ((c.tc : Thread nD τ).loc main_arg6)) (m ((c.tc : Thread nD τ).loc main_arg7)))
          (head (m ((c.tc : Thread nD τ).loc main_arg0)) (m ((c.tc : Thread nD τ).loc main_arg2)) (m ((c.tc : Thread nD τ).loc main_arg3)))
          (mask (massWords (m ((c.tc : Thread nD τ).loc main_arg1))))
          (scattered (target (massWords (m ((c.tc : Thread nD τ).loc main_arg1))))
            (head (m ((c.tc : Thread nD τ).loc main_arg0)) (m ((c.tc : Thread nD τ).loc main_arg4)) (m ((c.tc : Thread nD τ).loc main_arg5)))) := rfl

/-- An array clipped below at zero, as the reference clips. -/
def atLeastZero (v : FVec Ideal S4096x1000 .f32) : FVec Ideal S4096x1000 .f32 :=
  maximumf v (broadcastInDim S4096x1000 ![] bcast_S_S4096x1000 (constant S_ .f32 0x00000000#32))

/-- The reference's prediction is its raw result clipped below at zero. -/
theorem pred_eq (m : (ℓ : Loc nD τ sig) → Buf (Elt Ideal) ℓ) (c : Dev nD) :
    Value.res_main_v73 m c = atLeastZero (Value.res_main_v72 m c) := rfl

/-- The clip at one index. -/
theorem atLeastZero_at (v : FVec Ideal S4096x1000 .f32) (y : S4096x1000.Idx) : atLeastZero v y = max (v y) (0 : EReal) := by
  pointwise [atLeastZero]

/-- A head at a row and column. -/
theorem head_at (A : FVec Ideal S4096x4096 .f32) (W : FVec Ideal S4096x1000 .f32) (b : FVec Ideal S1000 .f32) (r : Fin 4096) (c : Fin 1000) :
    head A W b (ix2 r c) = lin (fun k => A (ix2 r k)) (fun k j => W (ix2 k j)) (fun j => b (ix1 j)) c := by
  unfold lin
  pointwise [head]

/-- The gate at a row and column. -/
theorem gate_at (g : FVec Ideal S4096x1000 .f32) (r : Fin 4096) (c : Fin 1000) : gate g (ix2 r c) = Ideal.logistic (g (ix2 r c)) := by
  pointwise [gate]
  rfl

/-- The mass word of a row. -/
theorem massWords_at (M : FVec Ideal S4096x1 .f32) (r : Fin 4096) : massWords M (ix1 r) = massWord (M (ix2 r 0)) := by
  pointwise [massWords]
  rfl

/-- The mask at a row and column. -/
theorem mask_at (T : IVec S4096 32) (r : Fin 4096) (c : Fin 1000) (hT : (T (ix1 r)).toInt ≤ 994) :
    mask T (ix2 r c) = if (c.val : ℤ) ≤ (T (ix1 r)).toInt + 5 then (1 : EReal) else 0 := by
  pointwise [mask]
  rw [sle_last hT]
  show (((BitVec.ofBool _).toNat : ℝ) : EReal) = _
  by_cases h : (c.val : ℤ) ≤ (T (ix1 r)).toInt + 5
  · simp [h]
  · simp [h]

/-- The target word of a backward column. -/
theorem target_at (T : IVec S4096 32) (r : Fin 4096) (i : Fin 1000) : target T (ix2 r i) = destWord (T (ix1 r)) i.val := by
  pointwise [target]
  rfl

/-- The mix at a row and column. -/
theorem mixed_at (g f k s : FVec Ideal S4096x1000 .f32) (r : Fin 4096) (c : Fin 1000) : mixed g f k s (ix2 r c)
    = Ideal.logistic (g (ix2 r c)) * (f (ix2 r c) * k (ix2 r c)) + (1 - Ideal.logistic (g (ix2 r c))) * s (ix2 r c) := by
  rw [← gate_at g r c]
  pointwise [mixed]

/-- The first component of an index pair is the row. -/
theorem pairs_row (d : IVec S4096x1000 32) (r : Fin 4096) (i : Fin 1000) : (pairs d (ix3 r i 0)).toInt = r.val := by
  pointwise [pairs, rowIndex]
  have e : (BitVec.ofNat 32 r.val).toInt = r.val := WordCmp.toInt_ofNat_of_lt (by omega)
  rw [WordCmp.cmpi_slt_eq, WordCmp.select_ofBool, e, show (0#32).toInt = 0 from rfl,
    if_neg (by rw [decide_eq_true_eq]; omega), e]

/-- The second component of an index pair is the target column clipped into the spectrum. -/
theorem pairs_col (d : IVec S4096x1000 32) (r : Fin 4096) (i : Fin 1000) : (pairs d (ix3 r i 1)).toInt
    = if (d (ix2 r i)).toInt < 0 then 0 else if 999 < (d (ix2 r i)).toInt then 999 else (d (ix2 r i)).toInt := by
  rw [← toInt_clip]
  pointwise [pairs, colIndex, clipped]
  show (Scalar.select (IntOp.cmpi .slt (IntOp.minsi 999#32 (IntOp.maxsi 0#32 (d (ix2 r i)))) 0#32) _
    (IntOp.minsi 999#32 (IntOp.maxsi 0#32 (d (ix2 r i))))).toInt = _
  rw [WordCmp.cmpi_slt_eq, WordCmp.select_ofBool, if_neg]
  rw [toInt_clip, decide_eq_true_eq, show (0#32).toInt = 0 from rfl]
  split <;> [skip; split] <;> omega

/-- A backward value is kept where its target column lies in the spectrum. -/
theorem kept_at (d : IVec S4096x1000 32) (B : FVec Ideal S4096x1000 .f32) (r : Fin 4096) (i : Fin 1000) :
    kept d B (ix2 r i) = if 0 ≤ (d (ix2 r i)).toInt ∧ (d (ix2 r i)).toInt < 1000 then B (ix2 r i) else 0 := by
  pointwise [kept]
  rw [WordCmp.cmpi_slt_eq, WordCmp.cmpi_sge_eq, WordCmp.andi_ofBool, WordCmp.select_ofBool,
    show (0#32).toInt = 0 from rfl, show (1000#32).toInt = 1000 from rfl]
  exact if_congr (by simp) rfl rfl

/-- The scatter's dimension record, under a shorter name. -/
abbrev dims : ScatterDims S4096x1000 S4096x1000x2 S4096x1000 := scatter_S4096x1000_S4096x1000x2_S4096x1000_n_01_01_2

/-- The scatter has no window: both operand axes are addressed by the index pair. -/
theorem window_zero (k : S4096x1000.Idx) (a : Fin 2) : dims.window k a = 0 := by
  unfold ScatterDims.window
  rw [dif_neg fun h => (of_decide_eq_true (List.mem_filter.1 h).2) (by match a with | 0 => decide | 1 => decide)]

/-- The row at which an update lands is the first component of its index pair. -/
theorem start_row (k : S4096x1000.Idx) (idx : IVec S4096x1000x2 32) : dims.start k idx 0 = (idx (ix3 (k 0) (k 1) 0)).toInt := by
  unfold ScatterDims.start
  rw [dif_pos (by decide)]
  refine congrArg (fun i => (idx i).toInt) ?_
  funext b
  match b with
  | 0 => rfl
  | 1 => rfl
  | 2 => rfl

/-- The column at which an update lands is the second component of its index pair. -/
theorem start_col (k : S4096x1000.Idx) (idx : IVec S4096x1000x2 32) : dims.start k idx 1 = (idx (ix3 (k 0) (k 1) 1)).toInt := by
  unfold ScatterDims.start
  rw [dif_pos (by decide)]
  refine congrArg (fun i => (idx i).toInt) ?_
  funext b
  match b with
  | 0 => rfl
  | 1 => rfl
  | 2 => rfl

/-- Where an update of the scatter lands. -/
theorem lands (d : IVec S4096x1000 32) (r' : Fin 4096) (i : Fin 1000) (r : Fin 4096) (c : Fin 1000) :
    dims.resultIdx? (ix2 r' i) (pairs d) = some (ix2 r c)
      ↔ r' = r ∧ (if (d (ix2 r' i)).toInt < 0 then 0 else if 999 < (d (ix2 r' i)).toInt then 999 else (d (ix2 r' i)).toInt) = (c.val : ℤ) := by
  refine (Idealize.ShloMosaic.Routing.resultIdx?_ix2 dims (ix2 r' i) (pairs d) r c).trans ?_
  rw [window_zero, window_zero, start_row, start_col]
  have e0 := pairs_row d r' i
  have e1 := pairs_col d r' i
  refine and_congr ?_ ?_
  · show (pairs d (ix3 r' i 0)).toInt + _ = _ ↔ _
    rw [e0, Fin.ext_iff]
    omega
  · show (pairs d (ix3 r' i 1)).toInt + _ = _ ↔ _
    rw [e1]
    simp

/-- The scattered array at a row and column: the backward value whose target is that column, if there is one. -/
theorem scattered_at (T : IVec S4096 32) (B : FVec Ideal S4096x1000 .f32) (r : Fin 4096) (c : Fin 1000)
    (hT : (T (ix1 r)).toInt ≤ 994) : scattered (target T) B (ix2 r c)
      = if (c.val : ℤ) ≤ (T (ix1 r)).toInt + 5 then B (ix2 r (Fin.ofNat 1000 ((T (ix1 r)).toInt + 5 - c.val).toNat)) else 0 := by
  have hz : (broadcastInDim S4096x1000 ![] bcast_S_S4096x1000 (constant (F := Ideal) S_ .f32 0x00000000#32)) (ix2 r c) = (0 : EReal) := by
    pointwise
  have hland : ∀ (r' : Fin 4096) (i : Fin 1000),
      (if dims.resultIdx? (ix2 r' i) (pairs (target T)) = some (ix2 r c) then kept (target T) B (ix2 r' i) else 0)
        = if r' = r then (if (i.val : ℤ) = (T (ix1 r)).toInt + 5 - c.val then B (ix2 r i) else 0) else 0 := by
    intro r' i
    rw [if_congr (lands (target T) r' i r c) rfl rfl]
    by_cases hr : r' = r
    · subst hr
      rw [if_pos rfl, if_congr (toInt_destWord hT i c).symm rfl rfl, kept_at, target_at]
      generalize (destWord (T (ix1 r')) i.val).toInt = z
      simp only [true_and]
      split_ifs <;> first | rfl | (exfalso; omega)
    · rw [if_neg (fun h => hr h.1), if_neg hr]
  show Ideal.hostScatterAdd dims _ _ _ (ix2 r c) = _
  unfold Ideal.hostScatterAdd
  rw [hz, zero_add, Finset.sum_filter, sum_idx2]
  simp only [hland]
  rw [Finset.sum_eq_single_of_mem r (Finset.mem_univ _) fun r' _ h => Finset.sum_eq_zero fun i _ => if_neg h]
  simp only [if_true]
  by_cases hc : (c.val : ℤ) ≤ (T (ix1 r)).toInt + 5
  · have hi : ((Fin.ofNat 1000 ((T (ix1 r)).toInt + 5 - c.val).toNat).val : ℤ) = (T (ix1 r)).toInt + 5 - c.val := by
      rw [Fin.val_ofNat, Nat.mod_eq_of_lt (by omega)]
      omega
    rw [if_pos hc, Finset.sum_eq_single_of_mem (Fin.ofNat 1000 ((T (ix1 r)).toInt + 5 - c.val).toNat) (Finset.mem_univ _)
      fun i _ h => if_neg fun e => h (Fin.ext (by omega)), if_pos hi]
  · rw [if_neg hc]
    exact Finset.sum_eq_zero fun i _ => if_neg (by omega)

/-- The masked forward head and the scattered backward head, mixed, are the raw spectrum. -/
theorem mixed_raw (A : FVec Ideal S4096x4096 .f32) (M : FVec Ideal S4096x1 .f32) (Wf : FVec Ideal S4096x1000 .f32)
    (bf : FVec Ideal S1000 .f32) (Wb : FVec Ideal S4096x1000 .f32) (bb : FVec Ideal S1000 .f32)
    (Wg : FVec Ideal S4096x1000 .f32) (bg : FVec Ideal S1000 .f32) (r : Fin 4096) (c : Fin 1000)
    (hT : (massWord (M (ix2 r 0))).toInt ≤ 994) :
    mixed (head A Wg bg) (head A Wf bf) (mask (massWords M)) (scattered (target (massWords M)) (head A Wb bb)) (ix2 r c)
      = raw (fun k => A (ix2 r k)) (M (ix2 r 0))
          ⟨fun k j => Wf (ix2 k j), fun j => bf (ix1 j), fun k j => Wb (ix2 k j), fun j => bb (ix1 j),
            fun k j => Wg (ix2 k j), fun j => bg (ix1 j)⟩ c := by
  have hT' : (massWords M (ix1 r)).toInt ≤ 994 := by rw [massWords_at]; exact hT
  rw [mixed_at, mask_at _ r c hT', scattered_at _ _ r c hT', massWords_at, head_at, head_at, head_at]
  unfold raw last
  split
  · rw [mul_one]
  · rw [mul_zero, mul_zero, mul_zero, add_zero]

end Cert.ReferenceIdeal.Closed
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Spectrum

/-- The shape facts that the precondition's program states. -/
theorem pre_facts : Cert.Pre_mass_in_range.Facts where
  shapeCasts_S4096x1_S4096 := by decide
  bcast_S_S4096 := by decide

/-- The kernel as traced runs, leaves its arguments unchanged and every counter at zero. -/
theorem frame_kernel : Cert.quiescent_Kernel (hKernel := Cert.Kernel.Gen.facts) :=
  fun m ρ _ => Cert.Kernel.Gen.frame m ρ

/-- The idealized kernel runs, leaves its arguments unchanged and every counter at zero. -/
theorem frame_ideal : Cert.quiescent_KernelIdeal (hKernelIdeal := Cert.KernelIdeal.Gen.facts) :=
  fun m ρ _ => Cert.KernelIdeal.Gen.frame m ρ

/-- The same of the idealized kernel on the inputs that the precondition admits. -/
theorem frame_ideal_pre : Cert.quiescent_KernelIdeal_pre_mass_in_range (hKernelIdeal := Cert.KernelIdeal.Gen.facts)
    (hPre_mass_in_range := pre_facts) :=
  fun m ρ _ => Cert.KernelIdeal.Gen.frame m ρ

/-- The idealized reference runs, leaves its arguments unchanged and every counter at zero: it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- The same of the idealized reference on the inputs that the precondition admits. -/
theorem frame_reference_pre : Cert.quiescent_ReferenceIdeal_pre_mass_in_range
    (hReferenceIdeal := Cert.ReferenceIdeal.Gen.facts) (hPre_mass_in_range := pre_facts) :=
  fun m ρ _ => frame_reference m ρ trivial

/-- Under the precondition every rounded mass is at most 994. -/
theorem mass_le (m : (ℓ : Loc Cert.KernelIdeal.nD Cert.KernelIdeal.τ Cert.KernelIdeal.sig) → Buf (Elt Ideal) ℓ)
    (hpre : Cert.Pre_KernelIdeal_mass_in_range (hPre_mass_in_range := pre_facts) m) (c : Dev Cert.KernelIdeal.nD) (r : Fin 4096) :
    (massWord (Cert.KernelIdeal.Final.masses m c (ix2 r 0))).toInt ≤ 994 := by
  have h := congrFun (hpre c) (ix1 r)
  pointwise [Cert.Pre_mass_in_range.fn, Cert.Pre_mass_in_range.fn_round] at h
  rw [WordCmp.cmpi_sle_eq, WordCmp.ofBool_eq_one_iff, decide_eq_true_eq] at h
  exact h

/-- The kernel's two results are the reference's two results. -/
theorem algebraic : Cert.algebraic_KernelIdeal_ReferenceIdeal_pre_mass_in_range
    (hKernelIdeal := Cert.KernelIdeal.Gen.facts) (hReferenceIdeal := Cert.ReferenceIdeal.Gen.facts)
    (hPre_mass_in_range := pre_facts) := by
  intro m g m' g' hpre hagree
  have hraw : ∀ c, Cert.ReferenceIdeal.Value.res_main_v72 m' c = Cert.KernelIdeal.Final.spectra m c := by
    intro c
    obtain ⟨h0, h1, h2, h3, h4, h5, h6, h7⟩ := hagree c
    rw [Cert.ReferenceIdeal.Closed.raw_eq, h0, h1, h2, h3, h4, h5, h6, h7]
    funext y
    obtain ⟨r, k, rfl⟩ : ∃ r k, y = ix2 r k := ⟨y 0, y 1, eq_ix2 y⟩
    exact Cert.ReferenceIdeal.Closed.mixed_raw _ _ _ _ _ _ _ _ r k (mass_le m hpre c r)
  refine ⟨fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g,
    (θ_run Cert.ReferenceIdeal.defs _ _).mono (fun r h c => ⟨(h c).1.trans ?_, (h c).2.1.trans ?_, (h c).2.2⟩)
      (Cert.ReferenceIdeal.Value.run (F := Ideal) m' g')⟩
  · show _ = (Cert.KernelIdeal.Gen.dats m 0 c).arrAt 5 Cert.KernelIdeal.cfg0.N
    rw [Cert.KernelIdeal.Final.final_pred m c (mass_le m hpre c), Cert.ReferenceIdeal.Closed.pred_eq, hraw c]
    exact funext fun y => Cert.ReferenceIdeal.Closed.atLeastZero_at _ y
  · show _ = (Cert.KernelIdeal.Gen.dats m 0 c).arrAt 6 Cert.KernelIdeal.cfg0.N
    rw [Cert.KernelIdeal.Final.final_raw m c (mass_le m hpre c), hraw c]

/-- Everything that is claimed. -/
theorem claim : Cert.Claim :=
  ⟨Cert.Kernel.Gen.facts, Cert.KernelIdeal.Gen.facts, Cert.ReferenceIdeal.Gen.facts, pre_facts,
    frame_kernel, frame_ideal, frame_ideal_pre, frame_reference, frame_reference_pre, trivial, algebraic⟩

end Cert.Proof

end
